-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x256x1024 : Shape := ⟨3, ![256, 256, 1024]⟩
abbrev S32 : Shape := ⟨1, ![32]⟩
abbrev S1 : Shape := ⟨1, ![1]⟩
abbrev S_ : Shape := ⟨0, ![]⟩
abbrev S1024x1024 : Shape := ⟨2, ![1024, 1024]⟩
abbrev S32x1024 : Shape := ⟨2, ![32, 1024]⟩
abbrev S1024 : Shape := ⟨1, ![1024]⟩
abbrev S32x256 : Shape := ⟨2, ![32, 256]⟩

class Facts : Prop where
  bcast_S_S256x256x1024 : S_.BroadcastsInDim S256x256x1024 (![] : Fin 0 → Fin S256x256x1024.rank)
  reducesTo_S256x256x1024_S_d0_1_2 : S256x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32x256 : S_.BroadcastsInDim S32x256 (![] : Fin 0 → Fin S32x256.rank)
  reducesTo_S32x256_S_d0_1 : S32x256.ReducesTo [0, 1] S_

variable [Facts]

def fn {F : FTy → Type} [FloatOps F] (main_arg0 : FVec F S256x256x1024 .f32) (main_arg1 : FVec F S32 .f32) (main_arg2 : FVec F S32 .f32) (main_arg3 : FVec F S1 .f32) (main_arg4 : FVec F S_ .f32) (main_arg5 : FVec F S_ .f32) (main_arg6 : FVec F S32 .f32) (main_arg7 : FVec F S1024x1024 .f32) (main_arg8 : FVec F S1024x1024 .f32) (main_arg9 : FVec F S32x1024 .f32) (main_arg10 : FVec F S32x1024 .f32) (main_arg11 : FVec F S1024 .f32) (main_arg12 : FVec F S1024 .f32) (main_arg13 : FVec F S32x256 .f32) (main_arg14 : FVec F S32 .f32) : IVec S_ 1 :=
  let main_v0 : FVec F S256x256x1024 .f32 := Host.absf main_arg0
  let main_cst : FVec F S_ .f32 := constant S_ .f32 0x7F800000#32
  let main_v1 : FVec F S256x256x1024 .f32 := broadcastInDim S256x256x1024 ![] bcast_S_S256x256x1024 main_cst
  let main_v2 : IVec S256x256x1024 1 := cmpf .olt main_v0 main_v1
  let main_c : IVec S_ 1 := constantI S_ 1 1#1
  let main_v3 : IVec S_ 1 := (fun x v => Host.reduce IntOp.andi x v reducesTo_S256x256x1024_S_d0_1_2 h_S_) main_v2 main_c
  let main_v4 : FVec F S1024x1024 .f32 := Host.absf main_arg7
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S32x256 .f32 := Host.absf main_arg13
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  main_v13
-- ==== Kernel.lean ====
abbrev S256x256x1024 : Shape := ⟨3, ![256, 256, 1024]⟩
abbrev S32 : Shape := ⟨1, ![32]⟩
abbrev S1 : Shape := ⟨1, ![1]⟩
abbrev S_ : Shape := ⟨0, ![]⟩
abbrev S1024x1024 : Shape := ⟨2, ![1024, 1024]⟩
abbrev S32x1024 : Shape := ⟨2, ![32, 1024]⟩
abbrev S1024 : Shape := ⟨1, ![1024]⟩
abbrev S32x256 : Shape := ⟨2, ![32, 256]⟩
abbrev S2 : Shape := ⟨1, ![2]⟩
abbrev S32x1 : Shape := ⟨2, ![32, 1]⟩
abbrev S1x32 : Shape := ⟨2, ![1, 32]⟩
abbrev S1x1024 : Shape := ⟨2, ![1, 1024]⟩
abbrev S8x256x1024 : Shape := ⟨3, ![8, 256, 1024]⟩
abbrev S1x256x1024 : Shape := ⟨3, ![1, 256, 1024]⟩
abbrev S256x1024 : Shape := ⟨2, ![256, 1024]⟩
abbrev S8x1024 : Shape := ⟨2, ![8, 1024]⟩

abbrev nBuf : Space → Nat
  | .hbm => 89
  | .vmem => 14
  | .smem => 1
  | _ => 0

abbrev bufTy : (tb : Table) → Fin (tcTables nBuf tb) → BufTy
  | .hbm, ⟨0, _⟩ => ⟨S256x256x1024, .f32⟩
  | .hbm, ⟨1, _⟩ => ⟨S32, .f32⟩
  | .hbm, ⟨2, _⟩ => ⟨S32, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S32, .f32⟩
  | .hbm, ⟨7, _⟩ => ⟨S1024x1024, .f32⟩
  | .hbm, ⟨8, _⟩ => ⟨S1024x1024, .f32⟩
  | .hbm, ⟨9, _⟩ => ⟨S32x1024, .f32⟩
  | .hbm, ⟨10, _⟩ => ⟨S32x1024, .f32⟩
  | .hbm, ⟨11, _⟩ => ⟨S1024, .f32⟩
  | .hbm, ⟨12, _⟩ => ⟨S1024, .f32⟩
  | .hbm, ⟨13, _⟩ => ⟨S32x256, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S2, .f32⟩
  | .hbm, ⟨34, _⟩ => ⟨S32, .i32⟩
  | .hbm, ⟨35, _⟩ => ⟨S_, .i32⟩
  | .hbm, ⟨36, _⟩ => ⟨S32, .i32⟩
  | .hbm, ⟨37, _⟩ => ⟨S32, .i1⟩
  | .hbm, ⟨38, _⟩ => ⟨S_, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S32x1, .f32⟩
  | .hbm, ⟨51, _⟩ => ⟨S32x1024, .f32⟩
  | .hbm, ⟨52, _⟩ => ⟨S32x1024, .f32⟩
  | .hbm, ⟨53, _⟩ => ⟨S32x1, .f32⟩
  | .hbm, ⟨54, _⟩ => ⟨S32x1024, .f32⟩
  | .hbm, ⟨55, _⟩ => ⟨S32x1024, .f32⟩
  | .hbm, ⟨56, _⟩ => ⟨S_, .i32⟩
  | .hbm, ⟨57, _⟩ => ⟨S32, .i32⟩
  | .hbm, ⟨58, _⟩ => ⟨S32, .i1⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S32, .bf16⟩
  | .hbm, ⟨72, _⟩ => ⟨S1x32, .bf16⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S1024, .f32⟩
  | .hbm, ⟨80, _⟩ => ⟨S1x1024, .f32⟩
  | .hbm, ⟨81, _⟩ => ⟨S1024x1024, .f32⟩
  | .hbm, ⟨82, _⟩ => ⟨S1024x1024, .bf16⟩
  | .hbm, ⟨83, _⟩ => ⟨S1024x1024, .f32⟩
  | .hbm, ⟨84, _⟩ => ⟨S1024x1024, .bf16⟩
  | .hbm, ⟨85, _⟩ => ⟨S32x256, .bf16⟩
  | .hbm, ⟨86, _⟩ => ⟨S32x1024, .bf16⟩
  | .hbm, ⟨87, _⟩ => ⟨S32x1024, .bf16⟩
  | .hbm, ⟨88, _⟩ => ⟨S256x256x1024, .f32⟩
  | .local _ .vmem, ⟨0, _⟩ => ⟨S1x32, .bf16⟩
  | .local _ .vmem, ⟨1, _⟩ => ⟨S1x1024, .f32⟩
  | .local _ .vmem, ⟨2, _⟩ => ⟨S1x1024, .f32⟩
  | .local _ .vmem, ⟨3, _⟩ => ⟨S32x256, .bf16⟩
  | .local _ .vmem, ⟨4, _⟩ => ⟨S32x1024, .f32⟩
  | .local _ .vmem, ⟨5, _⟩ => ⟨S32x1024, .f32⟩
  | .local _ .vmem, ⟨6, _⟩ => ⟨S32x1024, .bf16⟩
  | .local _ .vmem, ⟨7, _⟩ => ⟨S32x1024, .bf16⟩
  | .local _ .vmem, ⟨8, _⟩ => ⟨S1024x1024, .bf16⟩
  | .local _ .vmem, ⟨9, _⟩ => ⟨S1024x1024, .bf16⟩
  | .local _ .vmem, ⟨10, _⟩ => ⟨S8x256x1024, .f32⟩
  | .local _ .vmem, ⟨11, _⟩ => ⟨S8x256x1024, .f32⟩
  | .local _ .vmem, ⟨12, _⟩ => ⟨S8x256x1024, .f32⟩
  | .local _ .vmem, ⟨13, _⟩ => ⟨S8x256x1024, .f32⟩
  | .local _ .smem, ⟨0, _⟩ => ⟨S2, .f32⟩
  | _, _ => ⟨S256x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_cst_0 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_call0_cst_2 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_c : Ref sig .tc := ⟨.hbm, 35, rfl⟩
abbrev main_call0_v16 : Ref sig .tc := ⟨.hbm, 36, rfl⟩
abbrev main_call0_v17 : Ref sig .tc := ⟨.hbm, 37, rfl⟩
abbrev main_call0_cst_3 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_v22 : Ref sig .tc := ⟨.hbm, 46, rfl⟩
abbrev main_call0_cst_5 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_c_6 : Ref sig .tc := ⟨.hbm, 56, rfl⟩
abbrev main_call0_v31 : Ref sig .tc := ⟨.hbm, 57, rfl⟩
abbrev main_call0_v32 : Ref sig .tc := ⟨.hbm, 58, rfl⟩
abbrev main_call0_v33 : Ref sig .tc := ⟨.hbm, 59, rfl⟩
abbrev main_call0_v34 : Ref sig .tc := ⟨.hbm, 60, rfl⟩
abbrev main_call0_cst_7 : Ref sig .tc := ⟨.hbm, 61, rfl⟩
abbrev main_call0_v35 : Ref sig .tc := ⟨.hbm, 62, rfl⟩
abbrev main_call0_v36 : Ref sig .tc := ⟨.hbm, 63, rfl⟩
abbrev main_call0_cst_8 : Ref sig .tc := ⟨.hbm, 64, rfl⟩
abbrev main_call0_v37 : Ref sig .tc := ⟨.hbm, 65, rfl⟩
abbrev main_call0_v38 : Ref sig .tc := ⟨.hbm, 66, rfl⟩
abbrev main_call0_cst_9 : Ref sig .tc := ⟨.hbm, 67, rfl⟩
abbrev main_call0_call1_v0 : Ref sig .tc := ⟨.hbm, 68, rfl⟩
abbrev main_call0_call1_v1 : Ref sig .tc := ⟨.hbm, 69, rfl⟩
abbrev main_call0_v39 : Ref sig .tc := ⟨.hbm, 70, rfl⟩
abbrev main_call0_v40 : Ref sig .tc := ⟨.hbm, 71, rfl⟩
abbrev main_call0_v41 : Ref sig .tc := ⟨.hbm, 72, rfl⟩
abbrev main_call0_cst_10 : Ref sig .tc := ⟨.hbm, 73, rfl⟩
abbrev main_call0_v42 : Ref sig .tc := ⟨.hbm, 74, rfl⟩
abbrev main_call0_v43 : Ref sig .tc := ⟨.hbm, 75, rfl⟩
abbrev main_call0_v44 : Ref sig .tc := ⟨.hbm, 76, rfl⟩
abbrev main_call0_cst_11 : Ref sig .tc := ⟨.hbm, 77, rfl⟩
abbrev main_call0_v45 : Ref sig .tc := ⟨.hbm, 78, rfl⟩
abbrev main_call0_v46 : Ref sig .tc := ⟨.hbm, 79, rfl⟩
abbrev main_call0_v47 : Ref sig .tc := ⟨.hbm, 80, rfl⟩
abbrev main_call0_v48 : Ref sig .tc := ⟨.hbm, 81, rfl⟩
abbrev main_call0_v49 : Ref sig .tc := ⟨.hbm, 82, rfl⟩
abbrev main_call0_v50 : Ref sig .tc := ⟨.hbm, 83, rfl⟩
abbrev main_call0_v51 : Ref sig .tc := ⟨.hbm, 84, rfl⟩
abbrev main_call0_v52 : Ref sig .tc := ⟨.hbm, 85, rfl⟩
abbrev main_call0_v53 : Ref sig .tc := ⟨.hbm, 86, rfl⟩
abbrev main_call0_v54 : Ref sig .tc := ⟨.hbm, 87, rfl⟩
abbrev main_v0 : Ref sig .tc := ⟨.hbm, 88, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S256x256x1024 : Shape := ⟨3, ![256, 256, 1024]⟩
abbrev S32 : Shape := ⟨1, ![32]⟩
abbrev S1 : Shape := ⟨1, ![1]⟩
abbrev S_ : Shape := ⟨0, ![]⟩
abbrev S1024x1024 : Shape := ⟨2, ![1024, 1024]⟩
abbrev S32x1024 : Shape := ⟨2, ![32, 1024]⟩
abbrev S1024 : Shape := ⟨1, ![1024]⟩
abbrev S32x256 : Shape := ⟨2, ![32, 256]⟩
abbrev S256x1024x32 : Shape := ⟨3, ![256, 1024, 32]⟩
abbrev S256x32x1024 : Shape := ⟨3, ![256, 32, 1024]⟩
abbrev S1x32x1 : Shape := ⟨3, ![1, 32, 1]⟩
abbrev S1024x256 : Shape := ⟨2, ![1024, 256]⟩
abbrev S256x1024 : Shape := ⟨2, ![256, 1024]⟩
abbrev S1x1024 : Shape := ⟨2, ![1, 1024]⟩
abbrev S8 : Shape := ⟨1, ![8]⟩
abbrev S8x1024 : Shape := ⟨2, ![8, 1024]⟩
abbrev S256x1x1024 : Shape := ⟨3, ![256, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S256x256x1024, .f32⟩
  | .hbm, ⟨1, _⟩ => ⟨S32, .f32⟩
  | .hbm, ⟨2, _⟩ => ⟨S32, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S32, .f32⟩
  | .hbm, ⟨7, _⟩ => ⟨S1024x1024, .f32⟩
  | .hbm, ⟨8, _⟩ => ⟨S1024x1024, .f32⟩
  | .hbm, ⟨9, _⟩ => ⟨S32x1024, .f32⟩
  | .hbm, ⟨10, _⟩ => ⟨S32x1024, .f32⟩
  | .hbm, ⟨11, _⟩ => ⟨S1024, .f32⟩
  | .hbm, ⟨12, _⟩ => ⟨S1024, .f32⟩
  | .hbm, ⟨13, _⟩ => ⟨S32x256, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256x256x1024, .f32⟩
  | .hbm, ⟨22, _⟩ => ⟨S256x256x1024, .f32⟩
  | .hbm, ⟨23, _⟩ => ⟨S256x256x1024, .f32⟩
  | .hbm, ⟨24, _⟩ => ⟨S256x256x1024, .f32⟩
  | .hbm, ⟨25, _⟩ => ⟨S256x256x1024, .f32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i1⟩
  | .hbm, ⟨30, _⟩ => ⟨S_, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S32, .f32⟩
  | .hbm, ⟨36, _⟩ => ⟨S256x1024x32, .f32⟩
  | .hbm, ⟨37, _⟩ => ⟨S256x32x1024, .f32⟩
  | .hbm, ⟨38, _⟩ => ⟨S32, .f32⟩
  | .hbm, ⟨39, _⟩ => ⟨S1x32x1, .f32⟩
  | .hbm, ⟨40, _⟩ => ⟨S256x32x1024, .f32⟩
  | .hbm, ⟨41, _⟩ => ⟨S256x32x1024, .f32⟩
  | .hbm, ⟨42, _⟩ => ⟨S32, .f32⟩
  | .hbm, ⟨43, _⟩ => ⟨S1x32x1, .f32⟩
  | .hbm, ⟨44, _⟩ => ⟨S256x32x1024, .f32⟩
  | .hbm, ⟨45, _⟩ => ⟨S256x32x1024, .f32⟩
  | .hbm, ⟨46, _⟩ => ⟨S1024x256, .f32⟩
  | .hbm, ⟨47, _⟩ => ⟨S256x1024, .f32⟩
  | .hbm, ⟨48, _⟩ => ⟨S1024x256, .f32⟩
  | .hbm, ⟨49, _⟩ => ⟨S256x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S256x1024, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S8, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8x1024, .f32⟩
  | .hbm, ⟨78, _⟩ => ⟨S1024, .f32⟩
  | .hbm, ⟨79, _⟩ => ⟨S1x1024, .f32⟩
  | .hbm, ⟨80, _⟩ => ⟨S256x1024, .f32⟩
  | .hbm, ⟨81, _⟩ => ⟨S256x1024, .f32⟩
  | .hbm, ⟨82, _⟩ => ⟨S8x1024, .f32⟩
  | .hbm, ⟨83, _⟩ => ⟨S1024, .f32⟩
  | .hbm, ⟨84, _⟩ => ⟨S1x1024, .f32⟩
  | .hbm, ⟨85, _⟩ => ⟨S256x1024, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S1, .f32⟩
  | .hbm, ⟨90, _⟩ => ⟨S1, .f32⟩
  | .hbm, ⟨91, _⟩ => ⟨S_, .f32⟩
  | .hbm, ⟨92, _⟩ => ⟨S1, .f32⟩
  | .hbm, ⟨93, _⟩ => ⟨S1, .f32⟩
  | .hbm, ⟨94, _⟩ => ⟨S_, .f32⟩
  | .hbm, ⟨95, _⟩ => ⟨S1, .f32⟩
  | .hbm, ⟨96, _⟩ => ⟨S1, .f32⟩
  | .hbm, ⟨97, _⟩ => ⟨S_, .f32⟩
  | .hbm, ⟨98, _⟩ => ⟨S_, .f32⟩
  | .hbm, ⟨99, _⟩ => ⟨S256x1x1024, .f32⟩
  | .hbm, ⟨100, _⟩ => ⟨S256x1x1024, .f32⟩
  | .hbm, ⟨101, _⟩ => ⟨S256x1x1024, .f32⟩
  | .hbm, ⟨102, _⟩ => ⟨S256x256x1024, .f32⟩
  | .hbm, ⟨103, _⟩ => ⟨S256x256x1024, .f32⟩
  | _, _ => ⟨S256x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Proof.Block.lean ====
/-
  What one grid point of the kernel computes, at the extended reals: the eight [256, 1024] windows of its block, read element
  by element as sums. The kernel treats the eight windows of a block one by one (eight projections stacked, eight band sums
  stacked, eight stores); each stage is stated here once for window `b`.
-/
module

public import proofs.«01_k».proof.Defs
public import proofs.«01_k».proof.Proof.Gen.KernelIdeal.Value
public import Idealize.ShloMosaic.Lib.Pipeline.ValueKit
public import Idealize.ShloMosaic.Lib.MatmulPlain
public import Idealize.ShloMosaic.Lib.ValueLayout
public import Idealize.ShloMosaic.Lib.ValueIdx
public import Idealize.ShloMosaic.Lib.Pointwise
public import Idealize.ShloMosaic.Lib.Claim

@[expose] public section

noncomputable section

namespace Cert.Proof.Block

open Idealize.ShloMosaic Cert.KernelIdeal Cert.KernelIdeal.Gen
open scoped BigOperators

/-! ## The sums -/

/-- A block's input: eight windows of 256 tokens of width 1024. -/
abbrev Tokens := S8x256x1024.Idx → EReal
/-- A [32, 256] table. -/
abbrev Cheb := S32x256.Idx → EReal
/-- A [32, 1024] table. -/
abbrev Table := S32x1024.Idx → EReal
/-- A [1024, 1024] matrix. -/
abbrev Square := S1024x1024.Idx → EReal
/-- A row of 1024. -/
abbrev Row := S1x1024.Idx → EReal
/-- A row of 32. -/
abbrev Trust := S1x32.Idx → EReal

/-- One window: 256 tokens of width 1024. -/
abbrev Win := Fin 256 → Fin 1024 → EReal

/-- Window `b` of a block. -/
def win (x : Tokens) (b : Fin 8) : Win := fun n d => x (ix3 b n d)

/-- The Chebyshev projection of a window: coefficient `k`, feature `d`, summed over the window's tokens. -/
def proj (ch : Cheb) (X : Win) (k : Fin 32) (d : Fin 1024) : EReal :=
  ∑ n : Fin 256, ch (ix2 k n) * X n d

/-- The coefficient after the gated compression: the projection plus the gate times (its product with the compression matrix
    less itself). -/
def coef (gc : EReal) (ch : Cheb) (X : Win) (cwt : Square) (k : Fin 32) (d : Fin 1024) : EReal :=
  proj ch X k d + gc * ((∑ e : Fin 1024, proj ch X k e * cwt (ix2 e d)) - proj ch X k d)

/-- The memory vector of a window: the coefficients weighted by a table of roles, summed over the bands, plus a row. -/
def vec (C : Fin 32 → Fin 1024 → EReal) (w : Table) (v : Row) (d : Fin 1024) : EReal :=
  (∑ k : Fin 32, C k d * w (ix2 k d)) + v (ix2 0 d)

/-- The key: the roles weighted by the trust, summed over the bands. -/
def key (tr : Trust) (r : Table) (d : Fin 1024) : EReal := ∑ k : Fin 32, tr (ix2 0 k) * r (ix2 k d)

/-- What is retrieved for one window: the real and imaginary memory vectors times their keys, times the retrieval matrix. -/
def retr (vr vi sr si : Fin 1024 → EReal) (rwt : Square) (d : Fin 1024) : EReal :=
  ∑ e : Fin 1024, (vr e * sr e + vi e * si e) * rwt (ix2 e d)

/-- One element of a window's output: token `n` plus the injection gate times what the window retrieved. -/
def out (gates : S2.Idx → EReal) (tr : Trust) (vmr vmi : Row) (ch : Cheb) (rrw riw rr ri : Table) (cwt rwt : Square) (X : Win)
    (n : Fin 256) (d : Fin 1024) : EReal :=
  X n d + gates (ix1 1)
    * retr (vec (coef (gates (ix1 0)) ch X cwt) rrw vmr) (vec (coef (gates (ix1 0)) ch X cwt) riw vmi) (key tr rr) (key tr ri) rwt d

/-! ## The kernel's vectors, stage by stage -/

/-- Window `b` of the block, as the kernel loads it. -/
def slab (x : Tokens) (b : Fin 8) : S1x256x1024.Idx → EReal := fun i => x (ix3 b (i 1) (i 2))

/-- A load of the rectangle of extent one at `o` along the leading axis is window `o`. -/
theorem ld_slab (x : Tokens) (o : ℕ) (ho : o < 8) (inb : ∀ a, (![o, 0, 0] : Fin 3 → ℕ) a + S1x256x1024.size a ≤ S8x256x1024.size a) :
    View.ld (Val := Elt Ideal) (e' := .f32) x (Rect.unit (s := S8x256x1024) ![o, 0, 0] ![1, 256, 1024] inb) = slab x ⟨o, ho⟩ := by
  funext i
  obtain ⟨a, n, d, rfl⟩ : ∃ a n d, i = ix3 a n d := ⟨_, _, _, eq_ix3 i⟩
  refine congrArg x (funext fun ax => Fin.ext ?_)
  match ax with
  | ⟨0, _⟩ =>
    have := a.isLt
    show o + 1 * a.val = o
    omega
  | ⟨1, _⟩ => show 0 + 1 * n.val = n.val; omega
  | ⟨2, _⟩ => show 0 + 1 * d.val = d.val; omega

/-- The projection of one window is the sum over its tokens. -/
theorem pay5_apply (ch : Cheb) (s : S1x256x1024.Idx → EReal) (k : Fin 32) (d : Fin 1024) :
    k0_pay5 (F := Ideal) ch s (ix2 k d) = ∑ n : Fin 256, ch (ix2 k n) * s (ix3 0 n d) := by
  pointwise [k0_pay5, k0_pay4]

/-- Eight [32, 1024] pieces stacked along the rows: row `32 b + k` is row `k` of piece `b`. -/
theorem stack_apply (f : Fin 8 → Table)
    (h : Shape.Concatenates [S32x1024, S32x1024, S32x1024, S32x1024, S32x1024, S32x1024, S32x1024, S32x1024] S256x1024 0)
    (b : Fin 8) (k : Fin 32) (r : Fin 256) (hr : r.val = 32 * b.val + k.val) (d : Fin 1024) :
    concatenate (α := EReal) S256x1024 0 [⟨S32x1024, f 0⟩, ⟨S32x1024, f 1⟩, ⟨S32x1024, f 2⟩, ⟨S32x1024, f 3⟩, ⟨S32x1024, f 4⟩,
      ⟨S32x1024, f 5⟩, ⟨S32x1024, f 6⟩, ⟨S32x1024, f 7⟩] h (ix2 r d) = f b (ix2 k d) :=
  concatenate_ofFn_apply (t := S256x1024) (s₁ := S32x1024) 0 f h rfl 32 rfl (ix2 r d) b
    (by show r.val / 32 = b.val; omega) (ix2 k d) (by show k.val = r.val % 32; omega)
    (fun ax hax => match ax with | ⟨0, _⟩ => absurd rfl hax | ⟨1, _⟩ => rfl)

/-- Eight rows stacked: row `b` is the `b`-th. -/
theorem rows_apply (f : Fin 8 → Row)
    (h : Shape.Concatenates [S1x1024, S1x1024, S1x1024, S1x1024, S1x1024, S1x1024, S1x1024, S1x1024] S8x1024 0)
    (b : Fin 8) (d : Fin 1024) :
    concatenate (α := EReal) S8x1024 0 [⟨S1x1024, f 0⟩, ⟨S1x1024, f 1⟩, ⟨S1x1024, f 2⟩, ⟨S1x1024, f 3⟩, ⟨S1x1024, f 4⟩,
      ⟨S1x1024, f 5⟩, ⟨S1x1024, f 6⟩, ⟨S1x1024, f 7⟩] h (ix2 b d) = f b (ix2 0 d) :=
  concatenate_ofFn_apply (t := S8x1024) (s₁ := S1x1024) 0 f h rfl 1 rfl (ix2 b d) b
    (by show b.val / 1 = b.val; omega) (ix2 0 d) (by show 0 = b.val % 1; omega)
    (fun ax hax => match ax with | ⟨0, _⟩ => absurd rfl hax | ⟨1, _⟩ => rfl)

/-- The coefficients of the block's eight windows, as the kernel stacks them. -/
def coefVec (gc : EReal) (ch : Cheb) (x : Tokens) (cwt : Square) : S256x1024.Idx → EReal :=
  k0_pay11 (F := Ideal) gc (k0_pay4 ch) (k0_pay5 ch (slab x 0)) (k0_pay6 ch (slab x 1)) (k0_pay7 ch (slab x 2)) (k0_pay8 ch (slab x 3))
    (k0_pay9 ch (slab x 4)) (k0_pay10 ch (slab x 5)) (slab x 6) (slab x 7) cwt

/-- The stack of the eight projections. -/
def projVec (ch : Cheb) (x : Tokens) : S256x1024.Idx → EReal :=
  concatenate (α := EReal) S256x1024 0 (List.ofFn fun b : Fin 8 => ⟨S32x1024, k0_pay5 (F := Ideal) ch (slab x b)⟩)
    concatenates_S32x1024_S32x1024_S32x1024_S32x1024_S32x1024_S32x1024_S32x1024_S32x1024_S256x1024_d0

/-- Row `32 b + k` of the stack is coefficient `k` of window `b`. -/
theorem projVec_apply (ch : Cheb) (x : Tokens) (b : Fin 8) (k : Fin 32) (r : Fin 256) (hr : r.val = 32 * b.val + k.val) (d : Fin 1024) :
    projVec ch x (ix2 r d) = proj ch (win x b) k d :=
  (stack_apply (fun b => k0_pay5 (F := Ideal) ch (slab x b)) _ b k r hr d).trans (pay5_apply ch (slab x b) k d)

/-- The kernel's coefficients from that stack. -/
theorem coefVec_eq (gc : EReal) (ch : Cheb) (x : Tokens) (cwt : Square) (r : Fin 256) (d : Fin 1024) :
    coefVec gc ch x cwt (ix2 r d)
      = projVec ch x (ix2 r d) + gc * ((∑ e : Fin 1024, projVec ch x (ix2 r e) * cwt (ix2 e d)) - projVec ch x (ix2 r d)) := by
  have h : coefVec gc ch x cwt = addf (F := Ideal) (φ := .f32) (projVec ch x) (mulf (F := Ideal) (φ := .f32) (broadcast S256x1024 gc)
      (subf (F := Ideal) (φ := .f32) (matmul (F := Ideal) dot_S256x1024_S1024x1024_S256x1024_1_0_0_1_n_n none (φ₁ := .bf16) (φ₂ := .bf16) (projVec ch x)
        (shapeCast S1024x1024 cwt shapeCasts_S1024x1024_S1024x1024) (constant S256x1024 .f32 0x00000000#32)) (projVec ch x))) := rfl
  rw [h]
  generalize projVec ch x = p
  pointwise

/-- Row `32 b + k` of the kernel's coefficients is window `b`'s coefficient `k`. -/
theorem coefVec_apply (gc : EReal) (ch : Cheb) (x : Tokens) (cwt : Square) (b : Fin 8) (k : Fin 32) (r : Fin 256)
    (hr : r.val = 32 * b.val + k.val) (d : Fin 1024) :
    coefVec gc ch x cwt (ix2 r d) = coef gc ch (win x b) cwt k d := by
  rw [coefVec_eq]
  simp only [projVec_apply ch x b k r hr]
  rfl

theorem slices_rows (b : Fin 8) : S256x1024.Slices ![32 * b.val, 0] S32x1024 := by revert b; decide

/-- The band sum of window `b`, as the kernel takes it: its 32 rows of the coefficients times a table, summed over the rows. -/
def bandRow (C : S256x1024.Idx → EReal) (w : Table) (b : Fin 8) : Row :=
  shapeCast S1x1024 (multiReduction (F := Ideal) (φ := .f32) .add [0] S1024
    (mulf (F := Ideal) (φ := .f32) (extractStridedSlice S32x1024 ![32 * b.val, 0] C (slices_rows b)) (shapeCast S32x1024 w shapeCasts_S32x1024_S32x1024))
    0x00000000#32 reduces_S32x1024_S1024 (.inl rfl) rfl) shapeCasts_S1024_S1x1024

/-- The band sum at feature `d`. -/
theorem bandRow_apply (C : S256x1024.Idx → EReal) (w : Table) (b : Fin 8) (d : Fin 1024) :
    bandRow C w b (ix2 0 d) = ∑ k : Fin 32, C (ix2 ⟨32 * b.val + k.val, by omega⟩ d) * w (ix2 k d) := by
  pointwise [bandRow]

/-- The memory vectors of the eight windows, as the kernel stacks them. -/
def vecVec (C : S256x1024.Idx → EReal) (w : Table) (v : Row) : S8x1024.Idx → EReal :=
  addf (F := Ideal) (φ := .f32) (concatenate (α := EReal) S8x1024 0 (List.ofFn fun b : Fin 8 => ⟨S1x1024, bandRow C w b⟩)
    concatenates_S1x1024_S1x1024_S1x1024_S1x1024_S1x1024_S1x1024_S1x1024_S1x1024_S8x1024_d0)
    (broadcastTo S8x1024 (shapeCast S1x1024 v shapeCasts_S1x1024_S1x1024) broadcasts_S1x1024_S8x1024)

/-- Row `b` of the stack is window `b`'s memory vector. -/
theorem vecVec_apply (gc : EReal) (ch : Cheb) (x : Tokens) (cwt : Square) (w : Table) (v : Row) (b : Fin 8) (d : Fin 1024) :
    vecVec (coefVec gc ch x cwt) w v (ix2 b d) = vec (coef gc ch (win x b) cwt) w v d := by
  have h : vecVec (coefVec gc ch x cwt) w v (ix2 b d) = bandRow (coefVec gc ch x cwt) w b (ix2 0 d) + v (ix2 0 d) := by
    unfold vecVec
    refine (congrArg₂ (· + ·) (rows_apply (fun b => bandRow (coefVec gc ch x cwt) w b) _ b d) ?_ : _)
    pointwise
  rw [h, bandRow_apply]
  have hk : ∀ k : Fin 32, coefVec gc ch x cwt (ix2 ⟨32 * b.val + k.val, by omega⟩ d) = coef gc ch (win x b) cwt k d :=
    fun k => coefVec_apply gc ch x cwt b k _ rfl d
  simp only [hk]
  rfl

/-- What the eight windows retrieve. -/
theorem pay34_apply (A B : S8x1024.Idx → EReal) (tr : Trust) (rr ri : Table) (rwt : Square) (b : Fin 8) (d : Fin 1024) :
    k0_pay34 (F := Ideal) A B (k0_pay33 tr) rr tr ri rwt (ix2 b d)
      = retr (fun e => A (ix2 b e)) (fun e => B (ix2 b e)) (key tr rr) (key tr ri) rwt d := by
  unfold retr key
  pointwise [k0_pay34, k0_pay33]

theorem slices_row (b : Fin 8) : S8x1024.Slices ![b.val, 0] S1x1024 := by revert b; decide

/-- What the kernel stores for window `b`: the window plus the gate times row `b` of what was retrieved. -/
def store (gi : EReal) (R : S8x1024.Idx → EReal) (s : S1x256x1024.Idx → EReal) (b : Fin 8) : S1x256x1024.Idx → EReal :=
  shapeCast S1x256x1024 (addf (F := Ideal) (φ := .f32) (shapeCast S256x1024 s shapeCasts_S1x256x1024_S256x1024)
    (broadcastTo S256x1024 (mulf (F := Ideal) (φ := .f32) (broadcast S1x1024 gi) (extractStridedSlice S1x1024 ![b.val, 0] R (slices_row b)))
      broadcasts_S1x1024_S256x1024)) shapeCasts_S256x1024_S1x256x1024

/-- That store at token `n`, feature `d`. -/
theorem store_apply (gi : EReal) (R : S8x1024.Idx → EReal) (s : S1x256x1024.Idx → EReal) (b : Fin 8) (n : Fin 256) (d : Fin 1024) :
    store gi R s b (ix3 0 n d) = s (ix3 0 n d) + gi * R (ix2 b d) := by
  pointwise [store]

/-! ## The kernel's printed stages are these -/

/-- A one-element load at `o` of the two gates is gate `o`. -/
theorem ld_gate (g : S2.Idx → EReal) (o : Fin 2) (inb : ∀ a, (![o.val] : Fin 1 → ℕ) a + S1.size a ≤ S2.size a) (h : 0 < S1.numel) :
    View.ld (Val := Elt Ideal) (e' := .f32) g (Rect.unit (s := S2) ![o.val] ![1] inb) (Shape.Idx.first h) = g (ix1 o) := by
  refine congrArg g (funext fun ax => Fin.ext ?_)
  match ax with
  | ⟨0, _⟩ => rfl

section Stages
variable (gc : EReal) (c3 : Cheb) (s0 s1 s2 s3 s4 s5 : Table) (s6 s7 : S1x256x1024.Idx → EReal) (cwt : Square) (w : Table)

/-- The band sums of windows 0 to 7 against either table are `bandRow` of the coefficients. -/
theorem pay13_eq : k0_pay13 (F := Ideal) gc c3 s0 s1 s2 s3 s4 s5 s6 s7 cwt w = bandRow (k0_pay11 (F := Ideal) gc c3 s0 s1 s2 s3 s4 s5 s6 s7 cwt) w 0 := rfl
theorem pay14_eq : k0_pay14 (F := Ideal) gc c3 s0 s1 s2 s3 s4 s5 s6 s7 cwt w = bandRow (k0_pay11 (F := Ideal) gc c3 s0 s1 s2 s3 s4 s5 s6 s7 cwt) w 0 := rfl
theorem pay16_eq : k0_pay16 (F := Ideal) gc c3 s0 s1 s2 s3 s4 s5 s6 s7 cwt w = bandRow (k0_pay11 (F := Ideal) gc c3 s0 s1 s2 s3 s4 s5 s6 s7 cwt) w 1 := rfl
theorem pay17_eq : k0_pay17 (F := Ideal) gc c3 s0 s1 s2 s3 s4 s5 s6 s7 cwt w = bandRow (k0_pay11 (F := Ideal) gc c3 s0 s1 s2 s3 s4 s5 s6 s7 cwt) w 1 := rfl
theorem pay19_eq : k0_pay19 (F := Ideal) (k0_pay18 (F := Ideal) gc c3 s0 s1 s2 s3 s4 s5 s6 s7 cwt) w
    = bandRow (k0_pay11 (F := Ideal) gc c3 s0 s1 s2 s3 s4 s5 s6 s7 cwt) w 2 := rfl
theorem pay20_eq : k0_pay20 (F := Ideal) (k0_pay18 (F := Ideal) gc c3 s0 s1 s2 s3 s4 s5 s6 s7 cwt) w
    = bandRow (k0_pay11 (F := Ideal) gc c3 s0 s1 s2 s3 s4 s5 s6 s7 cwt) w 2 := rfl
variable (C : S256x1024.Idx → EReal) (v : Row)
theorem pay22_eq : k0_pay22 (F := Ideal) C w = bandRow C w 3 := rfl
theorem pay23_eq : k0_pay23 (F := Ideal) C w = bandRow C w 3 := rfl
theorem pay25_eq : k0_pay25 (F := Ideal) C w = bandRow C w 4 := rfl
theorem pay26_eq : k0_pay26 (F := Ideal) C w = bandRow C w 4 := rfl
theorem pay28_eq : k0_pay28 (F := Ideal) C w = bandRow C w 5 := rfl
/-- The stack of the eight band sums plus a row is `vecVec`. -/
theorem pay31_eq : k0_pay31 (F := Ideal) C (bandRow C w 0) (bandRow C w 1) (bandRow C w 2) (bandRow C w 3) (bandRow C w 4) (bandRow C w 5) w w v
    = vecVec C w v := rfl
theorem pay32_eq : k0_pay32 (F := Ideal) C (bandRow C w 0) (bandRow C w 1) (bandRow C w 2) (bandRow C w 3) (bandRow C w 4) (k0_pay27 (F := Ideal) C) w w w v
    = vecVec C w v := rfl
variable (gi : EReal) (A B R : S8x1024.Idx → EReal) (tr : Trust) (rr ri : Table) (rwt : Square) (s : S1x256x1024.Idx → EReal)
/-- The eight stores are `store`. -/
theorem pay35_eq : k0_pay35 (F := Ideal) gi A B (k0_pay33 tr) rr tr ri rwt s = store gi (k0_pay34 (F := Ideal) A B (k0_pay33 tr) rr tr ri rwt) s 0 := rfl
theorem pay36_eq : k0_pay36 (F := Ideal) gi A B (k0_pay33 tr) rr tr ri rwt s = store gi (k0_pay34 (F := Ideal) A B (k0_pay33 tr) rr tr ri rwt) s 1 := rfl
theorem pay37_eq : k0_pay37 (F := Ideal) gi R s = store gi R s 2 := rfl
theorem pay38_eq : k0_pay38 (F := Ideal) gi R s = store gi R s 3 := rfl
theorem pay39_eq : k0_pay39 (F := Ideal) gi R s = store gi R s 4 := rfl
theorem pay1_eq : k0_pay1 (F := Ideal) (k0_pay40 s) (k0_pay41 gi R) = store gi R s 5 := rfl
theorem pay2_eq : k0_pay2 (F := Ideal) gi R s = store gi R s 6 := rfl
theorem pay3_eq : k0_pay3 (F := Ideal) gi R s = store gi R s 7 := rfl
end Stages

/-- The coefficients of the block, from the loads. -/
theorem coefVec_fold (gc : EReal) (ch : Cheb) (x : Tokens) (cwt : Square) :
    k0_pay11 (F := Ideal) gc (k0_pay4 ch) (k0_pay5 ch (slab x ⟨0, by decide⟩)) (k0_pay6 ch (slab x ⟨1, by decide⟩)) (k0_pay7 ch (slab x ⟨2, by decide⟩))
      (k0_pay8 ch (slab x ⟨3, by decide⟩)) (k0_pay9 ch (slab x ⟨4, by decide⟩)) (k0_pay10 ch (slab x ⟨5, by decide⟩)) (slab x ⟨6, by decide⟩)
      (slab x ⟨7, by decide⟩) cwt = coefVec gc ch x cwt := rfl

/-- A window's store, at the local index `y`, is the block's output at the index it is stored at. -/
theorem tile_out (g : S2.Idx → EReal) (gc gi : EReal) (hc : gc = g (ix1 0)) (hi : gi = g (ix1 1)) (tr : Trust) (vmr vmi : Row) (ch : Cheb) (rrw riw rr ri : Table) (cwt rwt : Square) (x : Tokens)
    (b b' : Fin 8) (n : Fin 256) (d : Fin 1024) (y : S1x256x1024.Idx) (h0 : b.val = b'.val + (y 0).val) (h1 : n.val = (y 1).val)
    (h2 : d.val = (y 2).val) :
    store gi (k0_pay34 (F := Ideal) (vecVec (coefVec gc ch x cwt) rrw vmr) (vecVec (coefVec gc ch x cwt) riw vmi)
      (k0_pay33 tr) rr tr ri rwt) (slab x b') b' y = out g tr vmr vmi ch rrw riw rr ri cwt rwt (win x b) n d := by
  obtain ⟨z, n', d', rfl⟩ : ∃ (z : Fin 1) (n' : Fin 256) (d' : Fin 1024), y = ix3 z n' d' := ⟨_, _, _, eq_ix3 y⟩
  obtain rfl : z = 0 := Subsingleton.elim _ _
  obtain rfl : b = b' := Fin.ext h0
  obtain rfl : n = n' := Fin.ext h1
  obtain rfl : d = d' := Fin.ext h2
  subst hc hi
  rw [store_apply, pay34_apply]
  simp only [vecVec_apply]
  rfl

variable (m : (ℓ : Loc nD τ sig) → Buf (Elt Ideal) ℓ)

/-- What point `t` leaves in the output's staging buffer: the block's output, from the point's input blocks. -/
theorem outs_apply (c : Dev nD) (t : Fin cfg0.N) (b : Fin 8) (n : Fin 256) (d : Fin 1024) :
    outsAt0 m c t (ix3 b n d) = out (iblk m c 0 t) (iblk m c 1 t) (iblk m c 2 t) (iblk m c 3 t) (iblk m c 4 t) (iblk m c 5 t) (iblk m c 6 t)
      (iblk m c 7 t) (iblk m c 8 t) (iblk m c 9 t) (iblk m c 10 t) (win (iblk m c 11 t) b) n d := by
  unfold outsAt0
  frame_out
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10, iblk m c 11 t = x11
  simp (disch := decide) only [ld_slab]
  simp only [coefVec_fold, pay13_eq, pay14_eq, pay16_eq, pay17_eq, pay19_eq, pay20_eq, pay22_eq, pay23_eq, pay25_eq, pay26_eq, pay28_eq]
  simp only [coefVec_fold, pay31_eq, pay32_eq, pay35_eq, pay36_eq, pay37_eq, pay38_eq, pay39_eq, pay1_eq, pay2_eq, pay3_eq]
  canon_tiles y h
  · exact tile_out x0 _ _ (ld_gate x0 0 _ _) (ld_gate x0 1 _ _) x1 x2 x3 x4 x5 x6 x7 x8 x9 x10 x11 b 7 n d y h0 h1 h2
  · exact tile_out x0 _ _ (ld_gate x0 0 _ _) (ld_gate x0 1 _ _) x1 x2 x3 x4 x5 x6 x7 x8 x9 x10 x11 b 6 n d y h0 h1 h2
  · exact tile_out x0 _ _ (ld_gate x0 0 _ _) (ld_gate x0 1 _ _) x1 x2 x3 x4 x5 x6 x7 x8 x9 x10 x11 b 5 n d y h0 h1 h2
  · exact tile_out x0 _ _ (ld_gate x0 0 _ _) (ld_gate x0 1 _ _) x1 x2 x3 x4 x5 x6 x7 x8 x9 x10 x11 b 4 n d y h0 h1 h2
  · exact tile_out x0 _ _ (ld_gate x0 0 _ _) (ld_gate x0 1 _ _) x1 x2 x3 x4 x5 x6 x7 x8 x9 x10 x11 b 3 n d y h0 h1 h2
  · exact tile_out x0 _ _ (ld_gate x0 0 _ _) (ld_gate x0 1 _ _) x1 x2 x3 x4 x5 x6 x7 x8 x9 x10 x11 b 2 n d y h0 h1 h2
  · exact tile_out x0 _ _ (ld_gate x0 0 _ _) (ld_gate x0 1 _ _) x1 x2 x3 x4 x5 x6 x7 x8 x9 x10 x11 b 1 n d y h0 h1 h2
  · exact tile_out x0 _ _ (ld_gate x0 0 _ _) (ld_gate x0 1 _ _) x1 x2 x3 x4 x5 x6 x7 x8 x9 x10 x11 b 0 n d y (h0.trans (Nat.zero_add _).symm) h1 h2

end Cert.Proof.Block

end
-- ==== Proof.Array.lean ====
/-
  What the kernel's output array holds after the run, at the extended reals: window by window the output of the block
  computation, over the arrays that stand in memory when the grid starts. Point `t` of the grid takes windows `8 t` to `8 t + 7`.
-/
module

public import proofs.«01_k».proof.Proof.Block

@[expose] public section

set_option maxRecDepth 16384

noncomputable section

namespace Cert.Proof.Array

open Idealize.ShloMosaic Idealize.SL.Sem Cert.KernelIdeal Cert.KernelIdeal.Gen Cert.Proof.Block

/-- The whole arrays are staged at block 0 at every point; the tokens and the output at block `t`. -/
theorem idx : ∀ t : Fin cfg0.N,
    (cfg0.win 0).index t = ![0] ∧ (cfg0.win 1).index t = ![0, 0] ∧ (cfg0.win 2).index t = ![0, 0] ∧ (cfg0.win 3).index t = ![0, 0]
    ∧ (cfg0.win 4).index t = ![0, 0] ∧ (cfg0.win 5).index t = ![0, 0] ∧ (cfg0.win 6).index t = ![0, 0] ∧ (cfg0.win 7).index t = ![0, 0]
    ∧ (cfg0.win 8).index t = ![0, 0] ∧ (cfg0.win 9).index t = ![0, 0] ∧ (cfg0.win 10).index t = ![0, 0]
    ∧ (cfg0.win 11).index t = ![t.val, 0, 0] ∧ (cfg0.win 12).index t = ![t.val, 0, 0] := by
  decide +kernel

variable (m : (ℓ : Loc nD τ sig) → Buf (Elt Ideal) ℓ) (c : Dev nD)

/-! ## The blocks at a point -/

section Blocks
variable (t : Fin cfg0.N)
set_option maxHeartbeats 2000000 in
/-- A window that stages its whole array holds the array. -/
theorem blk_whole : iblk m c 0 t = V m c main_call0_v14 ∧ iblk m c 1 t = V m c main_call0_v41 ∧ iblk m c 2 t = V m c main_call0_v44 ∧ iblk m c 3 t = V m c main_call0_v47
    ∧ iblk m c 4 t = V m c main_call0_v52 ∧ iblk m c 5 t = V m c main_call0_v27 ∧ iblk m c 6 t = V m c main_call0_v30
    ∧ iblk m c 7 t = V m c main_call0_v53 ∧ iblk m c 8 t = V m c main_call0_v54 ∧ iblk m c 9 t = V m c main_call0_v49
    ∧ iblk m c 10 t = V m c main_call0_v51 := by
  refine ⟨?_, ?_, ?_, ?_, ?_, ?_, ?_, ?_, ?_, ?_, ?_⟩ <;> (funext x; blk_ext [iblk, idx t])

/-- Window `b` of the tokens' block is the array's window `8 t + b`. -/
theorem blk_11 (b : Fin 8) (n : Fin 256) (d : Fin 1024) (B : Fin 256) (hB : B.val = 8 * t.val + b.val) :
    iblk m c 11 t (ix3 b n d) = m ((c.tc : Thread nD τ).loc main_arg0) (ix3 B n d) := by
  blk_ext [iblk, V, idx t]
end Blocks

/-- The output array after the run: window `i 0`, token `i 1`, feature `i 2`. -/
def G : S256x256x1024.Idx → EReal := fun i =>
  out (V m c main_call0_v14) (V m c main_call0_v41) (V m c main_call0_v44) (V m c main_call0_v47) (V m c main_call0_v52) (V m c main_call0_v27) (V m c main_call0_v30) (V m c main_call0_v53)
    (V m c main_call0_v54) (V m c main_call0_v49) (V m c main_call0_v51) (fun n d => m ((c.tc : Thread nD τ).loc main_arg0) (ix3 (i 0) n d)) (i 1) (i 2)

/-- The blocks of the grid tile the output array, and each holds what its point computed. -/
theorem arr_eq : (dats m 0 c).arrAt 12 cfg0.N = G m c := by
  refine (dats m 0 c).arrAt_eq_of_covers 12 _ (by decide +kernel) fun t hf y => ?_
  blk_simp
  rw [after0_12]
  obtain ⟨b, n, d, rfl⟩ : ∃ (b : Fin 8) (n : Fin 256) (d : Fin 1024), y = ix3 b n d := ⟨_, _, _, eq_ix3 y⟩
  rw [outs_apply]
  obtain ⟨h0, h1, h2, h3, h4, h5, h6, h7, h8, h9, h10⟩ := blk_whole m c t
  rw [h0, h1, h2, h3, h4, h5, h6, h7, h8, h9, h10]
  have ht : t.val < 32 := t.isLt
  have hi : (win0_12.blk t).view.emb (ix3 b n d) = ix3 (⟨8 * t.val + b.val, by omega⟩ : Fin 256) n d := by blk_ext [idx t]
  rw [hi]
  have hw : win (iblk m c 11 t) b
      = fun n d => m ((c.tc : Thread nD τ).loc main_arg0) (ix3 (⟨8 * t.val + b.val, by omega⟩ : Fin 256) n d) :=
    funext fun n => funext fun d => blk_11 m c t b n d _ rfl
  rw [hw]
  rfl

end Cert.Proof.Array

end
-- ==== Proof.Algebra.lean ====
/-
  The identities between the two orders of computing, over the extended reals, on plain functions: which sums may be exchanged,
  which factors moved, and where an entry has to be a real number for it. Nothing here mentions either program.
-/
module

public import Idealize.ShloMosaic.Lib.IdealHost
public import Idealize.ShloMosaic.Lib.ValueIdx

@[expose] public section

noncomputable section

namespace Cert.Proof.Algebra

open Idealize.ShloMosaic
open scoped BigOperators

/-! ## Sums of reals, and real factors of sums -/

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into any sum of extended reals. -/
theorem mul_sum_of_nonneg {ι : Type} (s : Finset ι) (a : EReal) (h0 : 0 ≤ a) (ht : a ≠ ⊤) (f : ι → EReal) :
    a * ∑ i ∈ s, f i = ∑ i ∈ s, a * f i := by
  classical
  induction s using Finset.induction_on with
  | empty => simp
  | insert b s hb ih => rw [Finset.sum_insert hb, Finset.sum_insert hb, EReal.left_distrib_of_nonneg_of_ne_top h0 ht, ih]

/-! ## The scalars -/

/-- The logistic function as both programs compute it. -/
def sg (x : EReal) : EReal := Ideal.div 1 (1 + Ideal.exp (-x))

theorem exp_top : Ideal.exp ⊤ = ⊤ := rfl
theorem exp_bot : Ideal.exp ⊥ = 0 := rfl
theorem exp_coe (r : ℝ) : Ideal.exp (r : EReal) = (Real.exp r : EReal) := rfl

/-- The logistic function of any extended real is a real. -/
theorem sg_real (x : EReal) : ∃ r : ℝ, sg x = r := by
  induction x with
  | bot => exact ⟨0, by rw [sg, EReal.neg_bot, exp_top, show (1 : EReal) + ⊤ = ⊤ from rfl]; simp [Ideal.div]⟩
  | top => exact ⟨1, by simp [sg, exp_bot, Ideal.div]⟩
  | coe r =>
    have h : (1 : EReal) + Ideal.exp (-(r : EReal)) = ((1 + Real.exp (-r) : ℝ) : EReal) := by
      rw [← EReal.coe_neg, exp_coe, EReal.coe_add, EReal.coe_one]
    have h0 : 1 + Real.exp (-r) ≠ 0 := by positivity
    exact ⟨1 / (1 + Real.exp (-r)), by rw [sg, h, Ideal.div_coe h0, one_mul]⟩

/-- The weight of the stored memory, 0.9 as a binary32 number. -/
def alpha : EReal := Ideal.ofBits .f32 0x3F666666#32
/-- The weight of the window, 0.1 as a binary32 number. -/
def beta : EReal := Ideal.ofBits .f32 0x3DCCCCCD#32

/-- The window's weight is a nonnegative real. -/
theorem beta_real : ∃ r : ℝ, 0 ≤ r ∧ beta = r := by
  refine ⟨(2 ^ 23 + 5033165 : ℕ) * (2 : ℝ) ^ (-27 : ℤ), by positivity, ?_⟩
  simp [beta, Ideal.ofBits, Ideal.ieee]

/-- The learned weight of a band: its own weight plus its bias. -/
def weight (w b : EReal) : EReal := w + b

/-- The normalisation of coefficient `k`: 1/256 for the constant coefficient, 2/256 for the others. -/
def scale (k : Fin 32) : EReal :=
  Scalar.select (IntOp.cmpi .eq (BitVec.ofNat 32 k.val) 0#32) (Ideal.ofBits .f32 0x3B800000#32) (Ideal.ofBits .f32 0x3C000000#32)

/-! ## Projecting before or after the gated mixing -/

/-- The gated mixing of one window: token `n`, feature `d`. -/
def mixed (gc : EReal) (X : Fin 256 → Fin 1024 → EReal) (W : Fin 1024 → Fin 1024 → EReal) (n : Fin 256) (d : Fin 1024) : EReal :=
  X n d + gc * ((∑ e, X n e * W d e) - X n d)

/-- Over reals, projecting the mixed window is mixing the projected window: the sum over tokens commutes with the gate and
    with the product by the matrix. -/
theorem project_mixed {ι κ : Type} [Fintype ι] [Fintype κ] (gc : EReal) (X : ι → κ → EReal) (W : κ → κ → EReal) (C : ι → EReal)
    (hg : ∃ r : ℝ, gc = r) (hX : ∀ n d, ∃ r : ℝ, X n d = r) (hW : ∀ d e, ∃ r : ℝ, W d e = r) (hC : ∀ n, ∃ r : ℝ, C n = r) (d : κ) :
    (∑ n, C n * X n d) + gc * ((∑ e, (∑ n, C n * X n e) * W d e) - ∑ n, C n * X n d)
      = ∑ n, (X n d + gc * ((∑ e, X n e * W d e) - X n d)) * C n := by
  obtain ⟨g, rfl⟩ := hg
  choose x hx using hX
  choose w hw using hW
  choose q hq using hC
  simp only [hx, hw, hq, ← EReal.coe_mul, ← coe_sum, ← EReal.coe_sub, ← EReal.coe_add]
  congr 1
  have h : ∑ e, (∑ n, q n * x n e) * w d e = ∑ n, q n * ∑ e, x n e * w d e := by
    simp only [Finset.sum_mul, Finset.mul_sum, mul_assoc]
    exact Finset.sum_comm
  rw [h, ← Finset.sum_sub_distrib, Finset.mul_sum, ← Finset.sum_add_distrib]
  exact Finset.sum_congr rfl fun n _ => by ring

/-! ## The memory vector and the trust key -/

/-- The weights of the bands, folded into the role table or taken one after another, and 0.1 inside or outside the sum. -/
theorem blend {ι : Type} [Fintype ι] (C s l w r : ι → EReal) (v : EReal) :
    (∑ k, C k * (w k * s k * l k * beta * r k)) + v = v + beta * ∑ k, r k * (C k * (s k * l k) * w k) := by
  obtain ⟨b, hb, h⟩ := beta_real
  rw [mul_sum_of_nonneg _ _ (by rw [h]; exact_mod_cast hb) (by rw [h]; exact EReal.coe_ne_top b), add_comm]
  congr 1
  refine Finset.sum_congr rfl fun k _ => ?_
  ac_rfl

/-- A sum over 32 bands whose terms from the eighth on are zero is the sum over the first eight. -/
theorem first_eight (f : Fin 32 → EReal) (r : Fin 32 → EReal) :
    (∑ k, Scalar.select (IntOp.cmpi .slt (BitVec.ofNat 32 k.val) 8#32) (f k) 0 * r k)
      = ∑ k : Fin 8, f ⟨k.val, by omega⟩ * r ⟨k.val, by omega⟩ := by
  have h : ∀ k : Fin 32, (Scalar.select (IntOp.cmpi .slt (BitVec.ofNat 32 k.val) 8#32) (f k) 0 : EReal) = if k.val < 8 then f k else 0 := by
    intro k
    fin_cases k <;> rfl
  simp only [h]
  rw [Fin.sum_univ_add (a := 8) (b := 24)]
  simp
  rfl

end Cert.Proof.Algebra

end
-- ==== Proof.Entry.lean ====
/-
  What the kernel's host lines leave in the arrays the grid reads, element by element, at the extended reals: the two gates,
  the trust row, the scaled memory rows, the weighted role tables, and the transposed or copied operands.
-/
module

public import proofs.«01_k».proof.Proof.Block
public import proofs.«01_k».proof.Proof.Algebra

@[expose] public section

set_option maxRecDepth 16384

noncomputable section

namespace Cert.Proof.Entry

open Idealize.ShloMosaic Idealize.SL.Sem Cert.KernelIdeal Cert.KernelIdeal.Gen Cert.Proof.Block Cert.Proof.Algebra

variable (m : (ℓ : Loc nD τ sig) → Buf (Elt Ideal) ℓ) (c : Dev nD)

/-! Every statement has one proof: the host lines are composed into one term of the arguments, which is then read at an index. -/

/-- Gate 0 is the logistic function of the compression gate. -/
theorem gate0_apply : V m c main_call0_v14 (ix1 0) = (sg (m ((c.tc : Thread nD τ).loc main_arg5) ix0) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise
  rfl

/-- Gate 1 is the logistic function of the injection gate times the blending gate. -/
theorem gate1_apply : V m c main_call0_v14 (ix1 1) = (sg (m ((c.tc : Thread nD τ).loc main_arg3) (ix1 0)) * m ((c.tc : Thread nD τ).loc main_arg4) ix0 : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise
  rfl

/-- The trust row: the logistic function of the trust for the first eight bands, zero for the others. -/
theorem trust_apply (k : Fin 32) : V m c main_call0_v41 (ix2 0 k) = (Scalar.select (IntOp.cmpi .slt (BitVec.ofNat 32 k.val) 8#32) (sg (m ((c.tc : Thread nD τ).loc main_arg6) (ix1 k))) 0 : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise
  exact congrArg (Scalar.select _ _) Ideal.ofBits_zero_f32

/-- The real part of the stored memory, scaled. -/
theorem vmr_apply (d : Fin 1024) : V m c main_call0_v44 (ix2 0 d) = (alpha * m ((c.tc : Thread nD τ).loc main_arg11) (ix1 d) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise
  rfl

/-- The imaginary part of the stored memory, scaled. -/
theorem vmi_apply (d : Fin 1024) : V m c main_call0_v47 (ix2 0 d) = (alpha * m ((c.tc : Thread nD τ).loc main_arg12) (ix1 d) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise
  rfl

/-- The real role table with the bands' weights folded in. -/
theorem rrw_apply (k : Fin 32) (d : Fin 1024) : V m c main_call0_v27 (ix2 k d) = (weight (m ((c.tc : Thread nD τ).loc main_arg1) (ix1 k)) (m ((c.tc : Thread nD τ).loc main_arg2) (ix1 k)) * scale k * m ((c.tc : Thread nD τ).loc main_arg14) (ix1 k) * beta * m ((c.tc : Thread nD τ).loc main_arg9) (ix2 k d) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise
  rfl

/-- The imaginary role table with the bands' weights folded in. -/
theorem riw_apply (k : Fin 32) (d : Fin 1024) : V m c main_call0_v30 (ix2 k d) = (weight (m ((c.tc : Thread nD τ).loc main_arg1) (ix1 k)) (m ((c.tc : Thread nD τ).loc main_arg2) (ix1 k)) * scale k * m ((c.tc : Thread nD τ).loc main_arg14) (ix1 k) * beta * m ((c.tc : Thread nD τ).loc main_arg10) (ix2 k d) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise
  rfl

/-- The Chebyshev matrix. -/
theorem ch_apply (k : Fin 32) (n : Fin 256) : V m c main_call0_v52 (ix2 k n) = (m ((c.tc : Thread nD τ).loc main_arg13) (ix2 k n) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise

/-- The real role table. -/
theorem rr_apply (k : Fin 32) (d : Fin 1024) : V m c main_call0_v53 (ix2 k d) = (m ((c.tc : Thread nD τ).loc main_arg9) (ix2 k d) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise

/-- The imaginary role table. -/
theorem ri_apply (k : Fin 32) (d : Fin 1024) : V m c main_call0_v54 (ix2 k d) = (m ((c.tc : Thread nD τ).loc main_arg10) (ix2 k d) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise

/-- The compression matrix, transposed. -/
theorem cwt_apply (e d : Fin 1024) : V m c main_call0_v49 (ix2 e d) = (m ((c.tc : Thread nD τ).loc main_arg7) (ix2 d e) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise

/-- The retrieval matrix, transposed. -/
theorem rwt_apply (e d : Fin 1024) : V m c main_call0_v51 (ix2 e d) = (m ((c.tc : Thread nD τ).loc main_arg8) (ix2 d e) : EReal) := by
  simp only [V, List.flatten_cons, List.flatten_nil, List.append_nil, hostOps0, List.cons_append,
    List.nil_append, StableHlo.TRef.ternary, StableHlo.TRef.binary, StableHlo.TRef.unary, StableHlo.TRef.nullary, StableHlo.TRef.reshape, StableHlo.TRef.toBuf, StableHlo.TRef.ofBuf, cast_eq]
  after_results_simp
  pointwise

end Cert.Proof.Entry

end
-- ==== Proof.Reference.lean ====
/-
  What the reference computes at one element, at the extended reals, on plain functions, and that its printed program computes it.
-/
module

public import proofs.«01_k».proof.Defs
public import proofs.«01_k».proof.Proof.Gen.ReferenceIdeal.Run
public import proofs.«01_k».proof.Proof.Algebra
public import Idealize.ShloMosaic.Lib.Pointwise
public import Idealize.ShloMosaic.Lib.MatmulPlain
public import Idealize.ShloMosaic.Lib.ValueLayout

@[expose] public section

set_option maxRecDepth 16384

noncomputable section

namespace Cert.Proof.Reference

open Idealize.ShloMosaic Idealize.SL.Sem Cert.ReferenceIdeal Cert.ReferenceIdeal.Gen Cert.Proof.Algebra
open scoped BigOperators

/-! ## The sums -/

/-- The memory vector of a window `X` for one role table `r`: the stored memory `v` and the bands' sum, blended. `g` is the
    mixing gate, `W` the mixing matrix, `C` the Chebyshev matrix, `l` the damping, `w` the band weights. -/
def memory (g : EReal) (X : Fin 256 → Fin 1024 → EReal) (W : Fin 1024 → Fin 1024 → EReal) (C : Fin 32 → Fin 256 → EReal)
    (l w : Fin 32 → EReal) (r : Fin 32 → Fin 1024 → EReal) (v : Fin 1024 → EReal) (d : Fin 1024) : EReal :=
  alpha * v d + beta * ∑ k, r k d * ((∑ n, mixed g X W n d * C k n) * (scale k * l k) * w k)

/-- The key of one role table: its first eight bands, weighted by the trust. -/
def key8 (tr : Fin 32 → EReal) (r : Fin 32 → Fin 1024 → EReal) (d : Fin 1024) : EReal :=
  ∑ k : Fin 8, sg (tr ⟨k.val, by omega⟩) * r ⟨k.val, by omega⟩ d

/-- One element of a window's result: token `n`, feature `d`. `R` is the retrieval matrix, `ig` and `bg` the injection and
    blending gates, `cg` the compression gate. -/
def result (ig bg cg : EReal) (X : Fin 256 → Fin 1024 → EReal) (W R : Fin 1024 → Fin 1024 → EReal) (C : Fin 32 → Fin 256 → EReal)
    (l w tr : Fin 32 → EReal) (rr ri : Fin 32 → Fin 1024 → EReal) (vr vi : Fin 1024 → EReal) (n : Fin 256) (d : Fin 1024) : EReal :=
  X n d + sg ig * bg * ∑ e, (key8 tr rr e * memory (sg cg) X W C l w rr vr e + key8 tr ri e * memory (sg cg) X W C l w ri vi e) * R d e

variable (m : (ℓ : Loc nD τ sig) → Buf (Elt Ideal) ℓ) (c : Dev nD)

set_option maxHeartbeats 2000000 in
/-- The reference's result at window `b`, token `n`, feature `d`. -/
theorem res_apply (b : Fin 256) (n : Fin 256) (d : Fin 1024) :
    Value.res_main_v73 m c (ix3 b n d) = result
      (m ((c.tc : Thread nD τ).loc main_arg3) (ix1 0)) (m ((c.tc : Thread nD τ).loc main_arg4) ix0) (m ((c.tc : Thread nD τ).loc main_arg5) ix0)
      (fun n d => m ((c.tc : Thread nD τ).loc main_arg0) (ix3 b n d))
      (fun d e => m ((c.tc : Thread nD τ).loc main_arg7) (ix2 d e)) (fun d e => m ((c.tc : Thread nD τ).loc main_arg8) (ix2 d e))
      (fun k n => m ((c.tc : Thread nD τ).loc main_arg13) (ix2 k n)) (fun k => m ((c.tc : Thread nD τ).loc main_arg14) (ix1 k))
      (fun k => weight (m ((c.tc : Thread nD τ).loc main_arg1) (ix1 k)) (m ((c.tc : Thread nD τ).loc main_arg2) (ix1 k)))
      (fun k => m ((c.tc : Thread nD τ).loc main_arg6) (ix1 k))
      (fun k d => m ((c.tc : Thread nD τ).loc main_arg9) (ix2 k d)) (fun k d => m ((c.tc : Thread nD τ).loc main_arg10) (ix2 k d))
      (fun d => m ((c.tc : Thread nD τ).loc main_arg11) (ix1 d)) (fun d => m ((c.tc : Thread nD τ).loc main_arg12) (ix1 d)) n d := by
  unfold Value.res_main_v73
  pointwise
  rfl

end Cert.Proof.Reference

end
-- ==== Proof.Equation.lean ====
/-
  The equation: over reals in the tokens, the compression matrix and the Chebyshev matrix, what the kernel's output array holds at
  an element is what the reference computes there.
-/
module

public import proofs.«01_k».proof.Proof.Array
public import proofs.«01_k».proof.Proof.Entry
public import proofs.«01_k».proof.Proof.Reference

@[expose] public section

noncomputable section

namespace Cert.Proof.Equation

open Idealize.ShloMosaic Idealize.SL.Sem Cert.KernelIdeal Cert.KernelIdeal.Gen Cert.Proof.Block Cert.Proof.Algebra Cert.Proof.Reference
open scoped BigOperators

/-! ## One window, on plain functions -/

section Window
variable (g : EReal) (X : Win) (W R : Fin 1024 → Fin 1024 → EReal) (C : Fin 32 → Fin 256 → EReal) (l w tr : Fin 32 → EReal)
  (ch : Cheb) (cwt rwt : Square) (hch : ∀ k n, ch (ix2 k n) = C k n) (hcwt : ∀ e d, cwt (ix2 e d) = W d e)
  (hg : ∃ r : ℝ, g = r) (hX : ∀ n d, ∃ r : ℝ, X n d = r) (hW : ∀ d e, ∃ r : ℝ, W d e = r) (hC : ∀ k n, ∃ r : ℝ, C k n = r)

include hch hcwt hg hX hW hC in
/-- The kernel's coefficient, mixed after projecting, is the reference's, projected after mixing. -/
theorem coef_eq (k : Fin 32) (d : Fin 1024) : coef g ch X cwt k d = ∑ n, mixed g X W n d * C k n := by
  unfold coef proj mixed
  simp only [hch, hcwt]
  exact project_mixed g X W (C k) hg hX hW (hC k) d

include hch hcwt hg hX hW hC in
/-- The kernel's memory vector is the reference's. -/
theorem vec_eq (t : Block.Table) (row : Row) (r : Fin 32 → Fin 1024 → EReal) (v : Fin 1024 → EReal)
    (ht : ∀ k d, t (ix2 k d) = w k * scale k * l k * beta * r k d) (hrow : ∀ d, row (ix2 0 d) = alpha * v d) (d : Fin 1024) :
    vec (coef g ch X cwt) t row d = memory g X W C l w r v d := by
  unfold vec memory
  simp only [coef_eq g X W C ch cwt hch hcwt hg hX hW hC, ht, hrow]
  exact blend _ scale l w (fun k => r k d) _

/-- The kernel's key, over all bands with the trust zero from the eighth on, is the reference's. -/
theorem key_eq (trust : Trust) (t : Block.Table) (r : Fin 32 → Fin 1024 → EReal)
    (htr : ∀ k : Fin 32, trust (ix2 0 k) = Scalar.select (IntOp.cmpi .slt (BitVec.ofNat 32 k.val) 8#32) (sg (tr k)) 0)
    (ht : ∀ k d, t (ix2 k d) = r k d) (d : Fin 1024) : key trust t d = key8 tr r d := by
  unfold key key8
  simp only [htr, ht]
  exact first_eight (fun k => sg (tr k)) (fun k => r k d)

include hch hcwt hX hW hC in
/-- One element of a window: the kernel's sum over the arrays the grid reads is the reference's over the arguments. -/
theorem out_eq (ig bg cg : EReal) (gates : S2.Idx → EReal) (trust : Trust) (vmr vmi : Row) (rrw riw rrt rit : Block.Table)
    (rr ri : Fin 32 → Fin 1024 → EReal) (vr vi : Fin 1024 → EReal) (n : Fin 256) (d : Fin 1024)
    (h0 : gates (ix1 0) = sg cg) (h1 : gates (ix1 1) = sg ig * bg)
    (htr : ∀ k : Fin 32, trust (ix2 0 k) = Scalar.select (IntOp.cmpi .slt (BitVec.ofNat 32 k.val) 8#32) (sg (tr k)) 0)
    (hvr : ∀ d, vmr (ix2 0 d) = alpha * vr d) (hvi : ∀ d, vmi (ix2 0 d) = alpha * vi d)
    (hrw : ∀ k d, rrw (ix2 k d) = w k * scale k * l k * beta * rr k d) (hiw : ∀ k d, riw (ix2 k d) = w k * scale k * l k * beta * ri k d)
    (hrr : ∀ k d, rrt (ix2 k d) = rr k d) (hri : ∀ k d, rit (ix2 k d) = ri k d) (hrwt : ∀ e d, rwt (ix2 e d) = R d e) :
    out gates trust vmr vmi ch rrw riw rrt rit cwt rwt X n d = result ig bg cg X W R C l w tr rr ri vr vi n d := by
  unfold out retr result
  have hv := vec_eq (sg cg) X W C l w ch cwt hch hcwt (sg_real cg) hX hW hC
  rw [h0, h1]
  simp only [hv rrw vmr rr vr hrw hvr, hv riw vmi ri vi hiw hvi, key_eq tr trust rrt rr htr hrr, key_eq tr trust rit ri htr hri, hrwt,
    mul_comm (memory _ _ _ _ _ _ _ _ _)]

end Window

/-! ## The arrays -/

/-- From memories with equal arguments, real where the precondition says so, the kernel's output array is the reference's. -/
theorem array_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (hx : ∀ i : S256x256x1024.Idx, ∃ r : ℝ, m ((c.tc : Thread nD τ).loc main_arg0) i = (r : EReal))
    (hW : ∀ i : S1024x1024.Idx, ∃ r : ℝ, m ((c.tc : Thread nD τ).loc main_arg7) i = (r : EReal))
    (hC : ∀ i : S32x256.Idx, ∃ r : ℝ, m ((c.tc : Thread nD τ).loc main_arg13) i = (r : EReal)) :
    Cert.ReferenceIdeal.Value.res_main_v73 m' c = Array.G m c := by
  funext i
  obtain ⟨b, n, d, rfl⟩ : ∃ (b : Fin 256) (n : Fin 256) (d : Fin 1024), i = ix3 b n d := ⟨_, _, _, eq_ix3 i⟩
  rw [res_apply m' c b n d, h0, h1, h2, h3, h4, h5, h6, h7, h8, h9, h10, h11, h12, h13, h14]
  exact (out_eq _ _ _ _ _ _ _ _ _ _ (Entry.ch_apply m c) (Entry.cwt_apply m c) (fun _ _ => hx _) (fun _ _ => hW _) (fun _ _ => hC _)
    _ _ _ _ _ _ _ _ _ _ _ _ _ _ _ n d (Entry.gate0_apply m c) (Entry.gate1_apply m c) (Entry.trust_apply m c) (Entry.vmr_apply m c)
    (Entry.vmi_apply m c) (Entry.rrw_apply m c) (Entry.riw_apply m c) (Entry.rr_apply m c) (Entry.ri_apply m c) (Entry.rwt_apply m c)).symm

end Cert.Proof.Equation

end
-- ==== Proof.Pre.lean ====
/-
  What the precondition says of the arguments, at the extended reals: every entry of the tokens, of the compression matrix and
  of the Chebyshev matrix is a real number.
-/
module

public import proofs.«01_k».proof.Defs
public import proofs.«01_k».proof.Proof.Gen.Pre_finite
public import Idealize.ShloMosaic.Lib.ReduceAll
public import Idealize.ShloMosaic.Lib.Pointwise
public import Idealize.ShloMosaic.Lib.IdealHost

@[expose] public section

noncomputable section

namespace Cert.Proof.Pre

open Idealize.ShloMosaic Cert.Pre_finite

/-- An extended real whose absolute value is below infinity is a real. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

variable [hF : Facts]

/-- The precondition's three tests, read at an entry. -/
theorem args_real (x : FVec Ideal S256x256x1024 .f32) (a1 a2 : FVec Ideal S32 .f32) (a3 : FVec Ideal S1 .f32) (a4 a5 : FVec Ideal S_ .f32)
    (a6 : FVec Ideal S32 .f32) (W a8 : FVec Ideal S1024x1024 .f32) (a9 a10 : FVec Ideal S32x1024 .f32) (a11 a12 : FVec Ideal S1024 .f32)
    (ch : FVec Ideal S32x256 .f32) (a14 : FVec Ideal S32 .f32)
    (h : fn (F := Ideal) x a1 a2 a3 a4 a5 a6 W a8 a9 a10 a11 a12 ch a14 = fun _ => 1#1) :
    (∀ i, ∃ r : ℝ, x i = r) ∧ (∀ i, ∃ r : ℝ, W i = r) ∧ ∀ i, ∃ r : ℝ, ch i = r := by
  have h0 := congrFun h ix0
  dsimp only [fn] at h0
  obtain ⟨h1, hch⟩ := IntOp.andi_eq_one.mp h0
  obtain ⟨hx, hW⟩ := IntOp.andi_eq_one.mp h1
  have : Subsingleton S_.Idx := ⟨fun _ _ => funext fun a => a.elim0⟩
  exact ⟨fun i => real_of_lt _ (Host.reduce_andi_all _ _ _ _ _ hx i), fun i => real_of_lt _ (Host.reduce_andi_all _ _ _ _ _ hW i),
    fun i => real_of_lt _ (Host.reduce_andi_all _ _ _ _ _ hch i)⟩

end Cert.Proof.Pre

end
-- ==== Proof.lean ====
/-
  The certificate's claims, assembled. The frames are the launches' own and the reference's run; the value claim puts together what
  the kernel's output array holds (Proof/Array.lean), what the reference computes and that the two are equal (Proof/Equation.lean),
  with the precondition read as "every entry of the tokens, the compression matrix and the Chebyshev matrix is real" (Proof/Pre.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Array
public import proofs.«01_k».proof.Proof.Equation
public import proofs.«01_k».proof.Proof.Pre
public import Idealize.ShloMosaic.Adequacy
public import Idealize.ShloMosaic.Init

@[expose] public section

noncomputable section

namespace Cert.Proof

open Idealize.ShloMosaic Idealize.SL.Sem

/-- The kernel as written runs without a fault, leaves its arguments as they were and every counter at zero. -/
theorem frame_kernel : Cert.quiescent_Kernel := fun m g _ => Cert.Kernel.Gen.frame m g

/-- So does the kernel over the extended reals. -/
theorem frame_ideal : Cert.quiescent_KernelIdeal := fun m g _ => Cert.KernelIdeal.Gen.frame m g

/-- So does the reference: its run leaves the arguments alone, and it declares no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments, the tokens, the compression matrix and the Chebyshev matrix real, the kernel and the reference end with
    equal results: on each device the array `Array.G`. -/
theorem equal_results : Cert.algebraic_KernelIdeal_ReferenceIdeal_pre_finite := by
  intro m g m' g' hpre hargs
  refine ⟨fun c => Array.G m c, ?_, ?_⟩
  · exact (θ_run Cert.KernelIdeal.defs _ _).mono (fun r h c => ⟨(h c).1.trans (Array.arr_eq m c), (h c).2⟩)
      (Cert.KernelIdeal.Value.run_blocks m g)
  · refine (θ_run Cert.ReferenceIdeal.defs _ _).mono (fun r h c => ⟨(h c).1.trans ?_, (h c).2⟩)
      (Cert.ReferenceIdeal.Value.run (F := Ideal) m' g')
    obtain ⟨h0, h1, h2, h3, h4, h5, h6, h7, h8, h9, h10, h11, h12, h13, h14⟩ := hargs c
    obtain ⟨hx, hW, hC⟩ := Pre.args_real _ _ _ _ _ _ _ _ _ _ _ _ _ _ _ (hpre c)
    exact Equation.array_eq m m' c h0 h1 h2 h3 h4 h5 h6 h7 h8 h9 h10 h11 h12 h13 h14 hx hW hC

/-- Every claim. -/
theorem claim : Cert.Claim :=
  ⟨Cert.Kernel.Gen.facts, Cert.KernelIdeal.Gen.facts, Cert.ReferenceIdeal.Gen.facts, Cert.Pre_finite.Gen.facts, frame_kernel, frame_ideal,
    fun m g _ => frame_ideal m g trivial, frame_reference, fun m g _ => frame_reference m g trivial, trivial, equal_results⟩

end Cert.Proof

end
